-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S200x1x3584 : Shape := ⟨3, ![200, 1, 3584]⟩
abbrev S1792x18944 : Shape := ⟨2, ![1792, 18944]⟩
abbrev S112x18944 : Shape := ⟨2, ![112, 18944]⟩
abbrev S200x3584 : Shape := ⟨2, ![200, 3584]⟩
abbrev S200x18944 : Shape := ⟨2, ![200, 18944]⟩
abbrev S1792x512 : Shape := ⟨2, ![1792, 512]⟩
abbrev S112x512 : Shape := ⟨2, ![112, 512]⟩
abbrev S200x512 : Shape := ⟨2, ![200, 512]⟩
abbrev S1792x1x512 : Shape := ⟨3, ![1792, 1, 512]⟩
abbrev S1792x2x512 : Shape := ⟨3, ![1792, 2, 512]⟩
abbrev S3584x512 : Shape := ⟨2, ![3584, 512]⟩
abbrev S112x1x512 : Shape := ⟨3, ![112, 1, 512]⟩
abbrev S112x32x512 : Shape := ⟨3, ![112, 32, 512]⟩
abbrev S200x1x18944 : Shape := ⟨3, ![200, 1, 18944]⟩

abbrev nBuf : Space → Nat
  | .hbm => 6
  | .vmem => 7
  | .smem => 0
  | _ => 0

abbrev bufTy : (tb : Table) → Fin (tcTables nBuf tb) → BufTy
  | .hbm, ⟨0, _⟩ => ⟨S200x1x3584, .bf16⟩
  | .hbm, ⟨1, _⟩ => ⟨S1792x18944, .i8⟩
  | .hbm, ⟨2, _⟩ => ⟨S112x18944, .i8⟩
  | .hbm, ⟨3, _⟩ => ⟨S200x3584, .bf16⟩
  | .hbm, ⟨4, _⟩ => ⟨S200x18944, .bf16⟩
  | .hbm, ⟨5, _⟩ => ⟨S200x1x18944, .bf16⟩
  | .local _ .vmem, ⟨0, _⟩ => ⟨S200x3584, .bf16⟩
  | .local _ .vmem, ⟨1, _⟩ => ⟨S1792x512, .i8⟩
  | .local _ .vmem, ⟨2, _⟩ => ⟨S1792x512, .i8⟩
  | .local _ .vmem, ⟨3, _⟩ => ⟨S112x512, .i8⟩
  | .local _ .vmem, ⟨4, _⟩ => ⟨S112x512, .i8⟩
  | .local _ .vmem, ⟨5, _⟩ => ⟨S200x512, .bf16⟩
  | .local _ .vmem, ⟨6, _⟩ => ⟨S200x512, .bf16⟩
  | _, _ => ⟨S200x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S200x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S200x1x3584 : Shape := ⟨3, ![200, 1, 3584]⟩
abbrev S1792x18944 : Shape := ⟨2, ![1792, 18944]⟩
abbrev S112x18944 : Shape := ⟨2, ![112, 18944]⟩
abbrev S2 : Shape := ⟨1, ![2]⟩
abbrev S_ : Shape := ⟨0, ![]⟩
abbrev S2x1x1 : Shape := ⟨3, ![2, 1, 1]⟩
abbrev S1x1792x18944 : Shape := ⟨3, ![1, 1792, 18944]⟩
abbrev S2x1792x18944 : Shape := ⟨3, ![2, 1792, 18944]⟩
abbrev S2x112x16x18944 : Shape := ⟨4, ![2, 112, 16, 18944]⟩
abbrev S1x112x1x18944 : Shape := ⟨4, ![1, 112, 1, 18944]⟩
abbrev S200x1x1792x2 : Shape := ⟨4, ![200, 1, 1792, 2]⟩
abbrev S200x1x18944 : Shape := ⟨3, ![200, 1, 18944]⟩

abbrev nBuf : Space → Nat
  | .hbm => 80
  | .vmem => 0
  | .smem => 0
  | _ => 0

abbrev bufTy : (tb : Table) → Fin (tcTables nBuf tb) → BufTy
  | .hbm, ⟨0, _⟩ => ⟨S200x1x3584, .bf16⟩
  | .hbm, ⟨1, _⟩ => ⟨S1792x18944, .i8⟩
  | .hbm, ⟨2, _⟩ => ⟨S112x18944, .i8⟩
  | .hbm, ⟨3, _⟩ => ⟨S2, .i32⟩
  | .hbm, ⟨4, _⟩ => ⟨S_, .i32⟩
  | .hbm, ⟨5, _⟩ => ⟨S2, .i32⟩
  | .hbm, ⟨6, _⟩ => ⟨S2, .i32⟩
  | .hbm, ⟨7, _⟩ => ⟨S2x1x1, .i32⟩
  | .hbm, ⟨8, _⟩ => ⟨S1792x18944, .i32⟩
  | .hbm, ⟨9, _⟩ => ⟨S1x1792x18944, .i32⟩
  | .hbm, ⟨10, _⟩ => ⟨S2x1792x18944, .i32⟩
  | .hbm, ⟨11, _⟩ => ⟨S2x1792x18944, .i32⟩
  | .hbm, ⟨12, _⟩ => ⟨S2x1792x18944, .i32⟩
  | .hbm, ⟨13, _⟩ => ⟨S_, .i32⟩
  | .hbm, ⟨14, _⟩ => ⟨S2x1792x18944, .i32⟩
  | .hbm, ⟨15, _⟩ => ⟨S2x1792x18944, .i32⟩
  | .hbm, ⟨16, _⟩ => ⟨S112x18944, .i32⟩
  | .hbm, ⟨17, _⟩ => ⟨S_, .i32⟩
  | .hbm, ⟨18, _⟩ => ⟨S112x18944, .i32⟩
  | .hbm, ⟨19, _⟩ => ⟨S112x18944, .i32⟩
  | .hbm, ⟨20, _⟩ => ⟨S112x18944, .f32⟩
  | .hbm, ⟨21, _⟩ => ⟨S_, .f32⟩
  | .hbm, ⟨22, _⟩ => ⟨S112x18944, .f32⟩
  | .hbm, ⟨23, _⟩ => ⟨S112x18944, .f32⟩
  | .hbm, ⟨24, _⟩ => ⟨S_, .i32⟩
  | .hbm, ⟨25, _⟩ => ⟨S112x18944, .i32⟩
  | .hbm, ⟨26, _⟩ => ⟨S112x18944, .i1⟩
  | .hbm, ⟨27, _⟩ => ⟨S_, .i32⟩
  | .hbm, ⟨28, _⟩ => ⟨S112x18944, .i32⟩
  | .hbm, ⟨29, _⟩ => ⟨S112x18944, .i1⟩
  | .hbm, ⟨30, _⟩ => ⟨S_, .f32⟩
  | .hbm, ⟨31, _⟩ => ⟨S112x18944, .f32⟩
  | .hbm, ⟨32, _⟩ => ⟨S112x18944, .f32⟩
  | .hbm, ⟨33, _⟩ => ⟨S_, .f32⟩
  | .hbm, ⟨34, _⟩ => ⟨S112x18944, .f32⟩
  | .hbm, ⟨35, _⟩ => ⟨S112x18944, .f32⟩
  | .hbm, ⟨36, _⟩ => ⟨S112x18944, .bf16⟩
  | .hbm, ⟨37, _⟩ => ⟨S_, .i32⟩
  | .hbm, ⟨38, _⟩ => ⟨S2x1792x18944, .i32⟩
  | .hbm, ⟨39, _⟩ => ⟨S2x1792x18944, .i32⟩
  | .hbm, ⟨40, _⟩ => ⟨S_, .i32⟩
  | .hbm, ⟨41, _⟩ => ⟨S2x1792x18944, .i32⟩
  | .hbm, ⟨42, _⟩ => ⟨S2x1792x18944, .i32⟩
  | .hbm, ⟨43, _⟩ => ⟨S_, .i32⟩
  | .hbm, ⟨44, _⟩ => ⟨S2x1792x18944, .i32⟩
  | .hbm, ⟨45, _⟩ => ⟨S2x1792x18944, .i32⟩
  | .hbm, ⟨46, _⟩ => ⟨S_, .i32⟩
  | .hbm, ⟨47, _⟩ => ⟨S2x1792x18944, .i32⟩
  | .hbm, ⟨48, _⟩ => ⟨S2x1792x18944, .i1⟩
  | .hbm, ⟨49, _⟩ => ⟨S_, .i32⟩
  | .hbm, ⟨50, _⟩ => ⟨S2x1792x18944, .i32⟩
  | .hbm, ⟨51, _⟩ => ⟨S2x1792x18944, .i32⟩
  | .hbm, ⟨52, _⟩ => ⟨S_, .i32⟩
  | .hbm, ⟨53, _⟩ => ⟨S2x1792x18944, .i32⟩
  | .hbm, ⟨54, _⟩ => ⟨S2x1792x18944, .i32⟩
  | .hbm, ⟨55, _⟩ => ⟨S_, .i32⟩
  | .hbm, ⟨56, _⟩ => ⟨S2x1792x18944, .i32⟩
  | .hbm, ⟨57, _⟩ => ⟨S2x1792x18944, .i32⟩
  | .hbm, ⟨58, _⟩ => ⟨S_, .i32⟩
  | .hbm, ⟨59, _⟩ => ⟨S2x1792x18944, .i32⟩
  | .hbm, ⟨60, _⟩ => ⟨S2x1792x18944, .i32⟩
  | .hbm, ⟨61, _⟩ => ⟨S2x1792x18944, .i32⟩
  | .hbm, ⟨62, _⟩ => ⟨S2x1792x18944, .i32⟩
  | .hbm, ⟨63, _⟩ => ⟨S_, .i32⟩
  | .hbm, ⟨64, _⟩ => ⟨S2x1792x18944, .i32⟩
  | .hbm, ⟨65, _⟩ => ⟨S2x1792x18944, .i32⟩
  | .hbm, ⟨66, _⟩ => ⟨S_, .i32⟩
  | .hbm, ⟨67, _⟩ => ⟨S2x1792x18944, .i32⟩
  | .hbm, ⟨68, _⟩ => ⟨S2x1792x18944, .i32⟩
  | .hbm, ⟨69, _⟩ => ⟨S2x1792x18944, .i32⟩
  | .hbm, ⟨70, _⟩ => ⟨S2x1792x18944, .f32⟩
  | .hbm, ⟨71, _⟩ => ⟨S2x1792x18944, .bf16⟩
  | .hbm, ⟨72, _⟩ => ⟨S2x112x16x18944, .bf16⟩
  | .hbm, ⟨73, _⟩ => ⟨S1x112x1x18944, .bf16⟩
  | .hbm, ⟨74, _⟩ => ⟨S2x112x16x18944, .bf16⟩
  | .hbm, ⟨75, _⟩ => ⟨S2x112x16x18944, .bf16⟩
  | .hbm, ⟨76, _⟩ => ⟨S2x1792x18944, .bf16⟩
  | .hbm, ⟨77, _⟩ => ⟨S200x1x1792x2, .bf16⟩
  | .hbm, ⟨78, _⟩ => ⟨S200x1x18944, .f32⟩
  | .hbm, ⟨79, _⟩ => ⟨S200x1x18944, .bf16⟩
  | _, _ => ⟨S200x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_call0_v0 : Ref sig .tc := ⟨.hbm, 31, rfl⟩
abbrev main_v21 : Ref sig .tc := ⟨.hbm, 32, rfl⟩
abbrev main_cst_5 : Ref sig .tc := ⟨.hbm, 33, rfl⟩
abbrev main_call1_v0 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_c_10 : Ref sig .tc := ⟨.hbm, 49, rfl⟩
abbrev main_v32 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_c_13 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_14 : Ref sig .tc := ⟨.hbm, 63, rfl⟩
abbrev main_v42 : Ref sig .tc := ⟨.hbm, 64, rfl⟩
abbrev main_v43 : Ref sig .tc := ⟨.hbm, 65, rfl⟩
abbrev main_c_15 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== Proof.Decode.lean ====
/- The number fields, one element at a time, at the ideal floats: the value the kernel gives a four-bit code is the value
   of the bits the reference builds for it, and the word the kernel builds for a scale byte has the reference's value. -/
module

public import Idealize.ShloMosaic.PureOps.Ideal.Laws
public import Idealize.ShloMosaic.Lib.ValueIdxCore
public import Mathlib.Tactic.NormNum
public import Mathlib.Tactic.IntervalCases

@[expose] public section

noncomputable section

namespace Cert.Mx

open Idealize.ShloMosaic

/-! ## The codes -/

/-- The value the kernel computes for a four-bit code: its magnitude from the low three bits, then its sign. -/
def codeKernel (c : BitVec 32) : EReal :=
  FloatOps.mulf (F := Ideal) (φ := .f32)
    (Scalar.select (IntOp.cmpi .slt (IntOp.andi c 7#32) 4#32)
      (FloatOps.mulf (F := Ideal) (φ := .f32) (FloatOps.sitofp .f32 (IntOp.andi c 7#32)) (FloatOps.ofBits .f32 0x3F000000#32))
      (Scalar.select (IntOp.cmpi .eq (IntOp.andi c 7#32) 7#32) (FloatOps.ofBits (F := Ideal) .f32 0x40C00000#32)
        (FloatOps.sitofp .f32 (IntOp.subi (IntOp.andi c 7#32) 2#32))))
    (Scalar.select (IntOp.cmpi .slt c 8#32) (FloatOps.ofBits (F := Ideal) .f32 0x3F800000#32) (FloatOps.ofBits .f32 0xBF800000#32))

/-- The exponent field of a code. -/
def codeExp (c : BitVec 32) : BitVec 32 := IntOp.andi (IntOp.shrui .vector c 1#32) 3#32
/-- The mantissa bit of a code. -/
def codeMan (c : BitVec 32) : BitVec 32 := IntOp.andi c 1#32

/-- The float32 word the reference builds for a four-bit code. -/
def codeBits (c : BitVec 32) : BitVec 32 :=
  IntOp.ori
    (Scalar.select (IntOp.cmpi .eq (codeExp c) 0#32) (IntOp.muli (codeMan c) 1056964608#32)
      (IntOp.ori (IntOp.shli .vector (IntOp.addi (codeExp c) 126#32) 23#32) (IntOp.shli .vector (codeMan c) 22#32)))
    (IntOp.shli .vector (IntOp.shrui .vector c 3#32) 31#32)

/-- The value the reference gives a four-bit code. -/
def codeValue (c : BitVec 32) : EReal := Ideal.ofBits .f32 (codeBits c)

/-- Kernel and reference give each of the sixteen codes one value. -/
theorem codeKernel_eq (n : Nat) (hn : n < 16) : codeKernel (BitVec.ofNat 32 n) = codeValue (BitVec.ofNat 32 n) := by
  have sit : ∀ b : BitVec 32, FloatOps.sitofp (F := Ideal) .f32 b = ((b.toInt : ℝ) : EReal) := fun _ => rfl
  unfold codeKernel codeValue codeBits codeExp codeMan
  interval_cases n <;>
  · simp [Scalar.select, IntOp.cmpi, IntOp.andi, IntOp.ori, IntOp.shli, IntOp.shrui, IntOp.addi, IntOp.subi, IntOp.muli,
      Ideal.ofBits, Ideal.ieee, sit, BitVec.toInt]
    try norm_cast
    try norm_num

/-! ## The two codes of a byte -/

/-- Code `p` of a byte: the low half at `p = 0`, the high half at `p = 1`. -/
def nibble (p : Nat) (b : BitVec 8) : BitVec 32 := BitVec.ofNat 32 (b.toNat / 16 ^ p % 16)

/-- The kernel's low code: the byte and 15. -/
theorem low_kernel : ∀ b : BitVec 8, IntOp.andi (b.setWidth 32) 15#32 = nibble 0 b := by
  unfold IntOp.andi nibble; decide +kernel
/-- The kernel's high code: the byte shifted down by four. -/
theorem high_kernel : ∀ b : BitVec 8, IntOp.shrsi .vector (b.setWidth 32) 4#32 = nibble 1 b := by
  unfold IntOp.shrsi nibble; decide +kernel
/-- The reference's low code: the byte shifted down by zero, and 15. -/
theorem low_ref : ∀ b : BitVec 8,
    IntOp.andi (IntOp.shrui .vector (b.setWidth 32) (IntOp.muli 4#32 (BitVec.ofNat 32 0))) 15#32 = nibble 0 b := by
  unfold IntOp.andi IntOp.shrui IntOp.muli nibble; decide +kernel
/-- The reference's high code: the byte shifted down by four, and 15. -/
theorem high_ref : ∀ b : BitVec 8,
    IntOp.andi (IntOp.shrui .vector (b.setWidth 32) (IntOp.muli 4#32 (BitVec.ofNat 32 1))) 15#32 = nibble 1 b := by
  unfold IntOp.andi IntOp.shrui IntOp.muli nibble; decide +kernel

/-- So the value the kernel gives code `p` of a byte is the reference's. -/
theorem codeKernel_nibble (p : Nat) (b : BitVec 8) : codeKernel (nibble p b) = codeValue (nibble p b) :=
  codeKernel_eq _ (Nat.mod_lt _ (by decide))

/-! ## The scales -/

/-- The value of the float32 word the kernel builds for a scale byte: the byte in the exponent field, all else zero. -/
def scaleKernel (b : BitVec 8) : EReal := Ideal.ofBits .f32 (IntOp.shli .vector (b.setWidth 32) 23#32)

/-- The reference's exponent of a scale byte: the byte less 127. -/
def scaleExp (b : BitVec 8) : BitVec 32 := IntOp.subi (b.setWidth 32) 127#32

/-- The value the reference gives a scale byte: two to the exponent, zero below -126 and infinity above 127. -/
def scaleValue (b : BitVec 8) : EReal :=
  Scalar.select (IntOp.cmpi .slt (scaleExp b) 4294967170#32) (Ideal.ofBits .f32 0x00000000#32)
    (Scalar.select (IntOp.cmpi .sgt (scaleExp b) 127#32) (Ideal.ofBits .f32 0x7F800000#32)
      (Ideal.pow (Ideal.ofBits .f32 0x40000000#32) (((scaleExp b).toInt : ℝ) : EReal)))

/-- The kernel's word has sign zero, -/
theorem scaleWord_sign : ∀ b : BitVec 8, (IntOp.shli .vector (b.setWidth 32) 23#32).extractLsb' 31 1 = 0#1 := by
  unfold IntOp.shli; decide +kernel
/-- the byte as its exponent field, -/
theorem scaleWord_exp : ∀ b : BitVec 8, (IntOp.shli .vector (b.setWidth 32) 23#32).extractLsb' 23 8 = b := by
  unfold IntOp.shli; decide +kernel
/-- and an empty mantissa. -/
theorem scaleWord_man : ∀ b : BitVec 8, (IntOp.shli .vector (b.setWidth 32) 23#32).extractLsb' 0 23 = 0#23 := by
  unfold IntOp.shli; decide +kernel
/-- The reference's exponent as an integer. -/
theorem scaleExp_toInt : ∀ b : BitVec 8, (scaleExp b).toInt = (b.toNat : Int) - 127 := by
  unfold scaleExp IntOp.subi; decide +kernel
/-- It is below -126 at byte 0 only, -/
theorem scaleExp_low : ∀ b : BitVec 8, IntOp.cmpi .slt (scaleExp b) 4294967170#32 = if b.toNat = 0 then 1#1 else 0#1 := by
  unfold scaleExp IntOp.subi IntOp.cmpi; decide +kernel
/-- and above 127 at byte 255 only. -/
theorem scaleExp_high : ∀ b : BitVec 8, IntOp.cmpi .sgt (scaleExp b) 127#32 = if b.toNat = 255 then 1#1 else 0#1 := by
  unfold scaleExp IntOp.subi IntOp.cmpi; decide +kernel

/-- The constant 2.0 denotes two. -/
theorem ofBits_two : Ideal.ofBits .f32 0x40000000#32 = ((2 : ℝ) : EReal) := by
  simp [Ideal.ofBits, Ideal.ieee, -EReal.coe_mul]; norm_num

/-- Kernel and reference give every scale byte one value. -/
theorem scaleKernel_eq (b : BitVec 8) : scaleKernel b = scaleValue b := by
  have hk : scaleKernel b = if b.toNat = 255 then ⊤ else if b.toNat = 0 then 0
      else (((2 : ℝ) ^ ((b.toNat : Int) - 127) : ℝ) : EReal) := by
    unfold scaleKernel
    show Ideal.ieee 8 23 _ = _
    unfold Ideal.ieee
    simp only [Nat.reduceAdd, scaleWord_sign, scaleWord_exp, scaleWord_man]
    have e : (2 : ℝ) ^ 23 * (2 : ℝ) ^ ((b.toNat : Int) - 127 - 23) = (2 : ℝ) ^ ((b.toNat : Int) - 127) := by
      rw [← zpow_natCast, ← zpow_add₀ (by norm_num)]; congr 1; push_cast; ring
    simp
    split_ifs
    · rfl
    · rfl
    · rw [← e, EReal.coe_mul]; norm_num
  have hr : scaleValue b = if b.toNat = 0 then 0 else if b.toNat = 255 then ⊤
      else (((2 : ℝ) ^ ((b.toNat : Int) - 127) : ℝ) : EReal) := by
    unfold scaleValue
    rw [scaleExp_low, scaleExp_high, ofBits_two, scaleExp_toInt]
    have hz : Ideal.ofBits .f32 0x00000000#32 = 0 := by simp [Ideal.ofBits, Ideal.ieee]
    have hi : Ideal.ofBits .f32 0x7F800000#32 = ⊤ := by simp [Ideal.ofBits, Ideal.ieee]
    have hp : Ideal.pow ((2 : ℝ) : EReal) ((((b.toNat : Int) - 127 : Int) : ℝ) : EReal) = (((2 : ℝ) ^ ((b.toNat : Int) - 127) : ℝ) : EReal) := by
      rw [← Real.rpow_intCast]; rfl
    rw [hz, hi, hp]
    split_ifs <;> rfl
  rw [hk, hr]
  split_ifs with h h' <;> first | rfl | omega

end Cert.Mx

end
-- ==== Proof.Block.lean ====
/- What one block of the kernel computes, at the ideal floats: an index of the block's result is the sum over the 3584
   contracted positions of the activation times the decoded weight times its scale. -/
module

public import proofs.«01_k».proof.Proof.Gen.KernelIdeal.Frame
public import proofs.«01_k».proof.Proof.Decode
public import Idealize.ShloMosaic.Lib.MatmulPlain
public import Idealize.ShloMosaic.Lib.Pipeline.Value
public import Idealize.ShloMosaic.Lib.ValueIdx

@[expose] public section

set_option maxRecDepth 16384

noncomputable section

namespace Cert.Mx

open Idealize.ShloMosaic Idealize.ShloMosaic.TcCoe Idealize.ShloMosaic.ValueIdx
open Cert.KernelIdeal Cert.KernelIdeal.Gen
open scoped BigOperators

/-- The byte row that holds code row `k`. -/
def byteRow (k : Fin 3584) : Fin 1792 := ⟨k.val / 2, by omega⟩
/-- The scale row of code row `k`. -/
def scaleRow (k : Fin 3584) : Fin 112 := ⟨k.val / 32, by omega⟩

/-- The weight at contracted row `k` of a column, from the byte and the scale byte that hold it, as the reference values them. -/
def weight (k : Nat) (b s : BitVec 8) : EReal := codeValue (nibble (k % 2) b) * scaleValue s

/-- The decoded block at row `k`: code `k % 2` of byte row `k / 2`. -/
theorem decode_apply (w : Vec Ideal S1792x512 .i8) (k : Fin 3584) (c : Fin 512) :
    k0_pay2 (F := Ideal) w (ix2 k c) = codeValue (nibble (k.val % 2) (w (ix2 (byteRow k) c))) := by
  rw [← codeKernel_nibble]
  refine congrArg codeKernel ?_
  have hk := k.isLt
  have h2 : k.val % 2 < 2 := Nat.mod_lt _ (by decide)
  have hc := c.isLt
  refine (shapeCast_apply _ shapeCasts_S1792x2x512_S3584x512 (ix2 k c) (ix3 (byteRow k) (⟨k.val % 2, h2⟩ : Fin 2) c) ?_).trans ?_
  · rewrite [Shape.rowMajor_val_three, Shape.rowMajor_val_two]
    show (k.val / 2 * 2 + k.val % 2) * 512 + c.val = k.val * 512 + c.val
    omega
  have hcast : ∀ x : IVec S1792x512 32, shapeCast S1792x1x512 x shapeCasts_S1792x512_S1792x1x512 (ix3 (byteRow k) (0 : Fin 1) c)
      = x (ix2 (byteRow k) c) := fun x => shapeCast_apply _ _ _ _ (by
    rewrite [Shape.rowMajor_val_three, Shape.rowMajor_val_two]
    show k.val / 2 * 512 + c.val = (k.val / 2 * 1 + 0) * 512 + c.val
    omega)
  rcases Nat.mod_two_eq_zero_or_one k.val with h | h
  · refine (concatenate_pair_apply_left (t := S1792x2x512) (s₁ := S1792x1x512) (s₂ := S1792x1x512) (1 : Fin 3) _ _
      concatenates_S1792x1x512_S1792x1x512_S1792x2x512_d1 _ rfl (ix3 (byteRow k) (0 : Fin 1) c) ?_).trans ?_
    · intro a
      match a with
      | ⟨0, _⟩ => rfl
      | ⟨1, _⟩ => exact h.symm
      | ⟨2, _⟩ => rfl
    rw [hcast, h]
    exact low_kernel _
  · refine (concatenate_pair_apply_right (t := S1792x2x512) (s₁ := S1792x1x512) (s₂ := S1792x1x512) (1 : Fin 3) _ _
      concatenates_S1792x1x512_S1792x1x512_S1792x2x512_d1 _ rfl rfl (ix3 (byteRow k) (0 : Fin 1) c) ?_ ?_).trans ?_
    · intro a ha
      match a with
      | ⟨0, _⟩ => rfl
      | ⟨1, _⟩ => exact absurd rfl ha
      | ⟨2, _⟩ => rfl
    · exact h.symm
    rw [hcast, h]
    exact high_kernel _

/-- The spread scales at row `k`: the scale of row `k / 32`. -/
theorem scale_apply (s : Vec Ideal S112x512 .i8) (k : Fin 3584) (c : Fin 512) :
    k0_pay3 (F := Ideal) s (ix2 k c) = scaleValue (s (ix2 (scaleRow k) c)) := by
  rw [← scaleKernel_eq]
  have hk := k.isLt
  have hc := c.isLt
  have h32 : k.val % 32 < 32 := Nat.mod_lt _ (by decide)
  unfold k0_pay3
  refine (shapeCast_apply _ shapeCasts_S112x32x512_S3584x512 (ix2 k c) (ix3 (scaleRow k) (⟨k.val % 32, h32⟩ : Fin 32) c) ?_).trans ?_
  · rewrite [Shape.rowMajor_val_three, Shape.rowMajor_val_two]
    show (k.val / 32 * 32 + k.val % 32) * 512 + c.val = k.val * 512 + c.val
    omega
  refine (broadcastTo_apply _ _ _ (ix3 (scaleRow k) (0 : Fin 1) c) ?_).trans ?_
  · intro a
    match a with
    | ⟨0, _⟩ => rfl
    | ⟨1, _⟩ => rfl
    | ⟨2, _⟩ => rfl
  refine (shapeCast_apply _ _ _ (ix3 (scaleRow k) (0 : Fin 1) c) rfl).trans ?_
  refine (shapeCast_apply _ _ _ (ix2 (scaleRow k) c) ?_).trans rfl
  rewrite [Shape.rowMajor_val_three, Shape.rowMajor_val_two]
  show k.val / 32 * 512 + c.val = (k.val / 32 * 1 + 0) * 512 + c.val
  omega

/-- The block's product at row `r`, column `c`. -/
theorem product_apply (v31 v41 : FVec Ideal S3584x512 .bf16) (x : Vec Ideal S200x3584 .bf16) (r : Fin 200) (c : Fin 512) :
    k0_pay1 (F := Ideal) v31 v41 x (ix2 r c) = ∑ k : Fin 3584, (x (ix2 r k) * (v31 (ix2 k c) * v41 (ix2 k c)) : EReal) := by
  unfold k0_pay1
  show FloatOps.matmul (DotDims.plain 200 3584 512) none (shapeCast S200x3584 x shapeCasts_S200x3584_S200x3584) (mulf v31 v41)
    (constant S200x512 .f32 0x00000000#32) (ix2 r c) = _
  rw [Ideal.matmul_plain_apply]
  have hz : (constant (F := Ideal) S200x512 .f32 0x00000000#32 (ix2 r c) : EReal) = 0 := by
    show Ideal.ofBits .f32 0x00000000#32 = 0
    simp [Ideal.ofBits, Ideal.ieee]
  rw [hz, zero_add]
  refine Finset.sum_congr rfl fun k _ => ?_
  rw [shapeCast_apply x shapeCasts_S200x3584_S200x3584 (ix2 r k) (ix2 r k) rfl]
  rfl

theorem hz : (![0, 0] : Fin 2 → Nat) = fun _ => 0 := funext fun a => by fin_cases a <;> rfl

/-- What the body leaves in the result block, at row `r`, column `c`. -/
theorem out_apply (x : Vec Ideal S200x3584 .bf16) (w : Vec Ideal S1792x512 .i8) (s : Vec Ideal S112x512 .i8) (r : Fin 200) (c : Fin 512) :
    out0_3 (F := Ideal) x w s (ix2 r c)
      = ∑ k : Fin 3584, (x (ix2 r k) * weight k.val (w (ix2 (byteRow k) c)) (s (ix2 (scaleRow k) c)) : EReal) := by
  unfold out0_3
  rw [View.canon_unit_zero hz, View.ld_unit_zero hz, View.ld_unit_zero hz, View.ld_unit_zero hz, product_apply]
  refine Finset.sum_congr rfl fun k _ => ?_
  rw [decode_apply, scale_apply]
  rfl

end Cert.Mx

end
-- ==== Proof.Array.lean ====
/- What the kernel's arrays hold, at the ideal floats: every block written back is that block of one whole-array product, the
   blocks cover the array, and the program's result is that product with its unit axis restored. -/
module

public import proofs.«01_k».proof.Proof.Block
public import Idealize.ShloMosaic.Lib.StableHlo.Run

@[expose] public section

set_option maxRecDepth 16384

noncomputable section

namespace Cert.Mx

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-- The product at row `r`, column `n`: the sum over the contracted positions of activation times weight. -/
def product (x : FVec Ideal S200x1x3584 .bf16) (w : IVec S1792x18944 8) (s : IVec S112x18944 8) (r : Fin 200) (n : Fin 18944) : EReal :=
  ∑ k : Fin 3584, (x (ix3 r (0 : Fin 1) k) * weight k.val (w (ix2 (byteRow k) n)) (s (ix2 (scaleRow k) n)) : EReal)

variable (m : (ℓ : Loc nD τ sig) → Buf (Elt Ideal) ℓ) (ρ : Dev nD → PrngReg)

/-- The whole-array product of core `c`'s arguments, as contents of the kernel's result array. -/
def whole (c : Dev nD) : Buf (Elt Ideal) ((c : Thread nD τ).loc main_v1) := fun i : S200x18944.Idx =>
  product (m ((c : Thread nD τ).loc main_arg0)) (m ((c : Thread nD τ).loc main_arg1)) (m ((c : Thread nD τ).loc main_arg2)) (i 0) (i 1)

/-! ## The blocks the kernel reads -/

/-- The activations the kernel reads are the argument without its unit axis. -/
theorem V_x (c : Dev nD) :
    V m c main_v0 = shapeCast S200x3584 (m ((c : Thread nD τ).loc main_arg0)) shapeCasts_S200x1x3584_S200x3584 := by
  show StableHlo.after [StableHlo.reshape main_arg0 main_v0 (rfl : (.bf16 : EltTy) = .bf16) shapeCasts_S200x1x3584_S200x3584] _ _ = _
  after_results_simp
  rfl

/-- The index maps: the activations' block never moves, the others move along the columns with the point. -/
theorem index_0 : ∀ t : Fin grid0.N, win0_0.index t 0 = 0 ∧ win0_0.index t 1 = 0 := by decide +kernel
theorem index_1 : ∀ t : Fin grid0.N, win0_1.index t 0 = 0 ∧ win0_1.index t 1 = t.val := by decide +kernel
theorem index_2 : ∀ t : Fin grid0.N, win0_2.index t 0 = 0 ∧ win0_2.index t 1 = t.val := by decide +kernel
theorem index_3 : ∀ t : Fin grid0.N, win0_3.index t 0 = 0 ∧ win0_3.index t 1 = t.val := by decide +kernel

/-- Column `c` of point `t`'s block in the whole array. -/
def col (t : Fin cfg0.N) (c : Fin 512) : Fin 18944 := ⟨512 * t.val + c.val, by have := t.isLt; have : cfg0.N = 37 := N_0; omega⟩

/-- The activations' block at any point, at row `r`, position `k`. -/
theorem blk_x (c : Dev nD) (t : Fin cfg0.N) (r : Fin 200) (k : Fin 3584) :
    (iblk m c 0 t : Vec Ideal S200x3584 .bf16) (ix2 r k) = m ((c : Thread nD τ).loc main_arg0) (ix3 r (0 : Fin 1) k) := by
  have hi := index_0 t
  unfold iblk
  rw [View.read_apply]
  show V m c main_v0 _ = _
  rw [V_x]
  refine shapeCast_apply _ _ _ (ix3 r (0 : Fin 1) k) ?_
  rewrite [Shape.rowMajor_val_three, Shape.rowMajor_val_two]
  show (r.val * 1 + 0) * 3584 + k.val = (win0_0.index t 0 * 200 + 1 * r.val) * 3584 + (win0_0.index t 1 * 3584 + 1 * k.val)
  rw [hi.1, hi.2]
  omega

/-- The packed weights' block at point `t`. -/
theorem blk_w (c : Dev nD) (t : Fin cfg0.N) (r : Fin 1792) (j : Fin 512) :
    (iblk m c 1 t : Vec Ideal S1792x512 .i8) (ix2 r j) = m ((c : Thread nD τ).loc main_arg1) (ix2 r (col t j)) := by
  have hi := index_1 t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t 0 * 1792 + 1 * r.val = r.val; rw [hi.1]; omega
  | ⟨1, _⟩ => show win0_1.index t 1 * 512 + 1 * j.val = 512 * t.val + j.val; rw [hi.2]; omega

/-- The scales' block at point `t`. -/
theorem blk_s (c : Dev nD) (t : Fin cfg0.N) (r : Fin 112) (j : Fin 512) :
    (iblk m c 2 t : Vec Ideal S112x512 .i8) (ix2 r j) = m ((c : Thread nD τ).loc main_arg2) (ix2 r (col t j)) := by
  have hi := index_2 t
  unfold iblk
  rw [View.read_apply]
  show V m c main_arg2 _ = _
  rw [V_main_arg2]
  refine congrArg (m ((c : Thread nD τ).loc main_arg2)) ?_
  funext a
  apply Fin.ext
  match a with
  | ⟨0, _⟩ => show win0_2.index t 0 * 112 + 1 * r.val = r.val; rw [hi.1]; omega
  | ⟨1, _⟩ => show win0_2.index t 1 * 512 + 1 * j.val = 512 * t.val + j.val; rw [hi.2]; omega

/-! ## The result array -/

/-- What point `t` writes back is block `t` of the whole-array product. -/
theorem flushed_eq (c : Dev nD) (t : Fin cfg0.N) :
    (dats m 0 c).flushed 3 t = (win0_3.blk t).view.read (Elt Ideal) (whole m c) := by
  have hi := index_3 t
  show (cfg0.win 3).cut (grid0.coords t) ((dats m 0 c).after 3 t) = _
  rw [after0_3]
  have key : ∀ (r : Fin 200) (q : Fin 512), out0_3 (F := Ideal) (iblk m c 0 t) (iblk m c 1 t) (iblk m c 2 t) (ix2 r q)
      = product (m ((c : Thread nD τ).loc main_arg0)) (m ((c : Thread nD τ).loc main_arg1)) (m ((c : Thread nD τ).loc main_arg2))
          r (col t q) := by
    intro r q
    rw [out_apply]
    unfold product
    refine Finset.sum_congr rfl fun k _ => ?_
    rw [blk_x, blk_w, blk_s]
  have block : ∀ j : S200x512.Idx, out0_3 (F := Ideal) (iblk m c 0 t) (iblk m c 1 t) (iblk m c 2 t) j
      = whole m c ((win0_3.blk t).view.emb j) := by
    intro j
    have hr : (win0_3.blk t).view.emb j = (ix2 (j 0) (col t (j 1)) : S200x18944.Idx) := by
      funext a
      apply Fin.ext
      match a with
      | ⟨0, _⟩ => show win0_3.index t 0 * 200 + 1 * (j 0).val = (j 0).val; rw [hi.1]; omega
      | ⟨1, _⟩ => show win0_3.index t 1 * 512 + 1 * (j 1).val = 512 * t.val + (j 1).val; rw [hi.2]; omega
    rw [hr]
    exact (congrArg _ (eq_ix2 j)).trans (key (j 0) (j 1))
  funext j
  rw [View.read_apply]
  exact block j

/-- An index of the result array is in point `t`'s block when its column is. -/
theorem mem_blk (t : Fin cfg0.N) (i : S200x18944.Idx) :
    i ∈ ((cfg0.win 3).blk t).view.set ↔ t.val * 512 ≤ (i 1 : Nat) ∧ (i 1 : Nat) < t.val * 512 + 512 := by
  have e := index_3 t
  show i ∈ ((View.whole main_v1).slice (win0_3.rect t)).set ↔ _
  rw [View.set_slice_whole, Rect.mem_set_unit]
  have h0 : (i 0 : Nat) < 200 := (i 0).isLt
  refine ⟨fun h => ?_, fun h a => ?_⟩
  · have : win0_3.index t 1 * 512 ≤ (i 1 : Nat) ∧ (i 1 : Nat) < win0_3.index t 1 * 512 + 512 := h 1
    rw [e.2] at this; exact this
  · match a with
    | ⟨0, _⟩ => show win0_3.index t 0 * 200 ≤ (i 0 : Nat) ∧ (i 0 : Nat) < win0_3.index t 0 * 200 + 200
                rw [e.1]; omega
    | ⟨1, _⟩ => show win0_3.index t 1 * 512 ≤ (i 1 : Nat) ∧ (i 1 : Nat) < win0_3.index t 1 * 512 + 512
                rw [e.2]; exact h

/-- The blocks cover the result array. -/
theorem cover (i : S200x18944.Idx) :
    ∃ t : Fin cfg0.N, (cfg0.win 3).flush t = true ∧ i ∈ ((cfg0.win 3).blk t).view.set := by
  have h1 : (i 1 : Nat) < 18944 := (i 1).isLt
  have hN : cfg0.N = 37 := N_0
  have ht : (i 1 : Nat) / 512 < cfg0.N := by omega
  refine ⟨⟨(i 1 : Nat) / 512, ht⟩, flush0_3 _, ?_⟩
  rw [mem_blk]
  dsimp only
  omega

/-- So the kernel's result array ends holding the whole-array product. -/
theorem final (c : Dev nD) : (dats m 0 c).arrAt 3 cfg0.N = whole m c :=
  (dats m 0 c).arrAt_eq_of_cover 3 (whole m c) (fun t _ => flushed_eq m c t) cover

/-- The program's result: the product with the unit axis restored. -/
def result (x : FVec Ideal S200x1x3584 .bf16) (w : IVec S1792x18944 8) (s : IVec S112x18944 8) : FVec Ideal S200x1x18944 .bf16 :=
  fun i => product x w s (i 0) (i 2)

/-- The lines after the kernel leave the result buffer at it. -/
theorem tail_result (c : Dev nD) :
    Pipeline.afterTail₀ cfgs (dats m) 0 (V0 m) [hostOps1] c main_v2
      = result (m ((c : Thread nD τ).loc main_arg0)) (m ((c : Thread nD τ).loc main_arg1)) (m ((c : Thread nD τ).loc main_arg2)) := by
  unfold Pipeline.afterTail₀
  have hA := Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at hA ⊢
  show StableHlo.after [StableHlo.reshape main_v1 main_v2 (rfl : (.bf16 : EltTy) = .bf16) shapeCasts_S200x18944_S200x1x18944] W _ = _
  after_results_simp
  have hW : W (Proc.devRef .tc main_v1) = whole m c := hA.trans (final m c)
  rw [hW]
  funext (i : S200x1x18944.Idx)
  have h1 : (i 1 : Nat) < 1 := (i 1).isLt
  refine shapeCast_apply _ _ i (ix2 (i 0) (i 2)) ?_
  rewrite [Shape.rowMajor_val_three, Shape.rowMajor_val_two]
  show (i 0 : Nat) * 18944 + (i 2 : Nat) = ((i 0 : Nat) * 1 + (i 1 : Nat)) * 18944 + (i 2 : Nat)
  omega

/-- The program runs to that result and leaves its arguments as they were. -/
theorem run : θ_run defs (onTc (τ := τ) (main (F := Ideal))) ⟨m, fun _ => 0, ρ⟩ (fun r => ∀ c : Dev nD,
      r.2.mem ((c.tc : Thread nD τ).loc main_v2)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Mx

end
-- ==== Proof.Ref.lean ====
/- What the reference computes, at the ideal floats, read at an index: the double sum over byte rows and the two codes of a
   byte of the activation times the decoded weight times its scale. -/
module

public import proofs.«01_k».proof.Proof.Gen.ReferenceIdeal.Read
public import proofs.«01_k».proof.Proof.Decode
public import Idealize.ShloMosaic.Lib.TwoAxisContraction
public import Idealize.ShloMosaic.Lib.ValueIdx
public import Idealize.ShloMosaic.PureOps.Ideal.Laws

@[expose] public section

set_option maxRecDepth 16384

noncomputable section

namespace Cert.Mx

open Idealize.ShloMosaic Idealize.ShloMosaic.TcCoe Idealize.ShloMosaic.ValueIdx
open Cert.ReferenceIdeal Cert.ReferenceIdeal.Gen Cert.ReferenceIdeal.Read
open scoped BigOperators

/-- The reference's code plane `p` at byte row `r`, column `n`: code `p` of that byte. -/
theorem ref_code (w : IVec S1792x18944 8) (p : Fin 2) (r : Fin 1792) (n : Fin 18944) :
    val_main_v10 (F := Ideal) w (ix3 p r n) = nibble p.val (w (ix2 r n)) := by
  have hs : val_main_v7 (F := Ideal) (ix3 p r n) = IntOp.muli 4#32 (BitVec.ofNat 32 p.val) := by
    rw [val_main_v7_apply, val_main_v3_apply, val_main_v2_apply, val_main_v1_apply, val_main_c_apply, val_main_v0_apply]
  have hw : val_main_v6 (F := Ideal) w (ix3 p r n) = (w (ix2 r n)).setWidth 32 := by
    rw [val_main_v6_apply, val_main_v5_apply, val_main_v4_apply]
    refine congrArg (fun j => (w j).setWidth 32) ?_
    funext a
    match a with
    | ⟨0, _⟩ => rfl
    | ⟨1, _⟩ => rfl
  rw [val_main_v10_apply, val_main_v8_apply, val_main_v9_apply, val_main_c_0_apply, hs, hw, shrui_host]
  match p with
  | ⟨0, _⟩ => exact low_ref _
  | ⟨1, _⟩ => exact high_ref _

/-- The reference's decoded plane is the value of that code. -/
theorem ref_decode (w : IVec S1792x18944 8) (p : Fin 2) (r : Fin 1792) (n : Fin 18944) :
    val_main_v48 (F := Ideal) w (ix3 p r n) = codeValue (nibble p.val (w (ix2 r n))) := by
  rw [← ref_code]
  show Ideal.ofBits .f32 (val_main_v46 (F := Ideal) w (ix3 p r n)) = _
  refine congrArg (Ideal.ofBits .f32) ?_
  rw [val_main_v46_apply, val_main_v45_apply, val_main_v43_apply, val_main_v41_apply, val_main_v40_apply, val_main_v39_apply,
    val_main_v37_apply, val_main_v35_apply, val_main_v33_apply, val_main_v31_apply, val_main_v29_apply, val_main_v27_apply,
    val_main_v25_apply, val_main_v24_apply, val_main_v26_apply, val_main_v28_apply, val_main_v30_apply, val_main_v32_apply,
    val_main_v34_apply, val_main_v36_apply, val_main_v38_apply, val_main_v42_apply, val_main_v44_apply, val_main_c_6_apply,
    val_main_c_7_apply, val_main_c_8_apply, val_main_c_9_apply, val_main_c_10_apply, val_main_c_11_apply, val_main_c_12_apply,
    val_main_c_13_apply, val_main_c_14_apply, val_main_c_15_apply]
  simp only [shrui_host, shli_host]
  rfl

/-- The reference's scale at scale row `q`, column `n`. -/
theorem ref_scale (s : IVec S112x18944 8) (q : Fin 112) (n : Fin 18944) :
    val_main_v23 (F := Ideal) s (ix2 q n) = scaleValue (s (ix2 q n)) := by
  rw [val_main_v23_apply, val_main_v22_apply, val_main_v21_apply, val_main_v20_apply, val_main_v18_apply, val_main_v16_apply,
    val_main_v14_apply, val_main_call0_v0_apply, val_main_call1_v0_apply, val_main_v13_apply, val_main_v11_apply,
    val_main_v12_apply, val_main_v15_apply, val_main_v17_apply, val_main_v19_apply, val_main_cst_apply, val_main_cst_4_apply,
    val_main_cst_5_apply, val_main_c_1_apply, val_main_c_2_apply, val_main_c_3_apply]
  rfl

/-- The reference's weight of code `p` of byte row `r`: the code's value times the scale of row `r / 16`. -/
theorem ref_weight (w : IVec S1792x18944 8) (s : IVec S112x18944 8) (p : Fin 2) (r : Fin 1792) (n : Fin 18944) :
    val_main_v53 (F := Ideal) w s (ix3 p r n)
      = codeValue (nibble p.val (w (ix2 r n))) * scaleValue (s (ix2 (⟨r.val / 16, by omega⟩ : Fin 112) n)) := by
  have hp := p.isLt
  have hr := r.isLt
  have hn := n.isLt
  have e : idx_main_v53 (ix3 p r n) = ix4 p (⟨r.val / 16, by omega⟩ : Fin 112) (⟨r.val % 16, by omega⟩ : Fin 16) n := by
    funext a
    apply Fin.ext
    match a with
    | ⟨0, _⟩ => show ((p.val * 1792 + r.val) * 18944 + n.val) / 33947648 = p.val; omega
    | ⟨1, _⟩ => show ((p.val * 1792 + r.val) * 18944 + n.val) / 303104 % 112 = r.val / 16; omega
    | ⟨2, _⟩ => show ((p.val * 1792 + r.val) * 18944 + n.val) / 18944 % 16 = r.val % 16; omega
    | ⟨3, _⟩ => show ((p.val * 1792 + r.val) * 18944 + n.val) % 18944 = n.val; omega
  have e' : idx_main_v49 (ix4 p (⟨r.val / 16, by omega⟩ : Fin 112) (⟨r.val % 16, by omega⟩ : Fin 16) n) = ix3 p r n := by
    funext a
    apply Fin.ext
    match a with
    | ⟨0, _⟩ => show (((p.val * 112 + r.val / 16) * 16 + r.val % 16) * 18944 + n.val) / 33947648 = p.val; omega
    | ⟨1, _⟩ => show (((p.val * 112 + r.val / 16) * 16 + r.val % 16) * 18944 + n.val) / 18944 % 1792 = r.val; omega
    | ⟨2, _⟩ => show (((p.val * 112 + r.val / 16) * 16 + r.val % 16) * 18944 + n.val) % 18944 = n.val; omega
  have e'' : idx_main_v50 (idx_main_v51 (ix4 p (⟨r.val / 16, by omega⟩ : Fin 112) (⟨r.val % 16, by omega⟩ : Fin 16) n))
      = ix2 (⟨r.val / 16, by omega⟩ : Fin 112) n := by
    funext a
    match a with
    | ⟨0, _⟩ => rfl
    | ⟨1, _⟩ => rfl
  rw [val_main_v53_apply, e, val_main_v52_apply, val_main_v49_apply, e', val_main_v51_apply, val_main_v50_apply, e'', ref_decode,
    ref_scale]
  rfl

/-- The activation the reference pairs with code `p` of byte row `r`: position `2 r + p`. -/
theorem ref_x (x : FVec Ideal S200x1x3584 .bf16) (b : Fin 200) (r : Fin 1792) (p : Fin 2) :
    val_main_v54 (F := Ideal) x (ix4 b (0 : Fin 1) r p) = x (ix3 b (0 : Fin 1) (⟨2 * r.val + p.val, by omega⟩ : Fin 3584)) := by
  have hb := b.isLt
  have hp := p.isLt
  have hr := r.isLt
  rw [val_main_v54_apply]
  refine congrArg x ?_
  funext a
  apply Fin.ext
  match a with
  | ⟨0, _⟩ => show (((b.val * 1 + 0) * 1792 + r.val) * 2 + p.val) / 3584 = b.val; omega
  | ⟨1, _⟩ => rfl
  | ⟨2, _⟩ => show (((b.val * 1 + 0) * 1792 + r.val) * 2 + p.val) % 3584 = 2 * r.val + p.val; omega

/-- The reference's result at row `b`, column `n`. -/
theorem ref_apply (x : FVec Ideal S200x1x3584 .bf16) (w : IVec S1792x18944 8) (s : IVec S112x18944 8) (b : Fin 200) (n : Fin 18944) :
    val_main_v56 (F := Ideal) x w s (ix3 b (0 : Fin 1) n)
      = ∑ r : Fin 1792, ∑ p : Fin 2, (x (ix3 b (0 : Fin 1) (⟨2 * r.val + p.val, by omega⟩ : Fin 3584))
          * (codeValue (nibble p.val (w (ix2 r n))) * scaleValue (s (ix2 (⟨r.val / 16, by omega⟩ : Fin 112) n))) : EReal) := by
  show val_main_v55 (F := Ideal) x w s (ix3 b (0 : Fin 1) n) = _
  unfold val_main_v55
  show FloatOps.dotGeneral _ _ _ _ _ (ix3 b (0 : Fin 1) n) = _
  rw [Ideal.dotGeneral_apply, sum_contr2 _ 1792 2 rfl rfl rfl]
  refine Finset.sum_congr rfl fun r _ => Finset.sum_congr rfl fun p _ => ?_
  have k0 := contrEquiv2_symm_val0 dot_S200x1x1792x2_S2x1792x18944_S200x1x18944_23_10_01_2_n_n 1792 2 rfl rfl rfl (r, p)
  have k1 := contrEquiv2_symm_val1 dot_S200x1x1792x2_S2x1792x18944_S200x1x18944_23_10_01_2_n_n 1792 2 rfl rfl rfl (r, p)
  generalize (contrEquiv2 dot_S200x1x1792x2_S2x1792x18944_S200x1x18944_23_10_01_2_n_n 1792 2 rfl rfl rfl).symm (r, p) = q at k0 k1 ⊢
  have el : dot_S200x1x1792x2_S2x1792x18944_S200x1x18944_23_10_01_2_n_n.lhsIdx (ix3 b (0 : Fin 1) n) q = ix4 b (0 : Fin 1) r p := by
    funext a
    apply Fin.ext
    match a with
    | ⟨0, _⟩ => rfl
    | ⟨1, _⟩ => rfl
    | ⟨2, _⟩ => exact k0
    | ⟨3, _⟩ => exact k1
  have er : dot_S200x1x1792x2_S2x1792x18944_S200x1x18944_23_10_01_2_n_n.rhsIdx (ix3 b (0 : Fin 1) n) q = ix3 p r n := by
    funext a
    apply Fin.ext
    match a with
    | ⟨0, _⟩ => exact k1
    | ⟨1, _⟩ => exact k0
    | ⟨2, _⟩ => rfl
  rw [el, er, ref_x, ref_weight]

end Cert.Mx

end
-- ==== Proof.Equation.lean ====
/- The equation: the kernel's one sum over the 3584 contracted positions is the reference's double sum over the 1792 byte rows
   and the two codes of a byte, position by position. -/
module

public import proofs.«01_k».proof.Proof.Array
public import proofs.«01_k».proof.Proof.Ref

@[expose] public section

set_option maxRecDepth 16384

noncomputable section

namespace Cert.Mx

open Idealize.ShloMosaic Idealize.ShloMosaic.ValueIdx
open Cert.ReferenceIdeal Cert.ReferenceIdeal.Read
open scoped BigOperators

/-- A sum over `3584` positions is the sum over byte rows `r` and codes `p` at position `2 r + p`. -/
theorem sum_pairs (f : Fin 3584 → EReal) :
    ∑ k : Fin 3584, f k = ∑ r : Fin 1792, ∑ p : Fin 2, f (⟨2 * r.val + p.val, by omega⟩ : Fin 3584) := by
  rw [← Fintype.sum_prod_type']
  refine (Fintype.sum_equiv (finProdFinEquiv (m := 1792) (n := 2)) _ _ fun q => ?_).symm
  refine congrArg f (Fin.ext ?_)
  show 2 * q.1.val + q.2.val = q.2.val + 2 * q.1.val
  omega

/-- The weight at position `2 r + p` is code `p` of byte row `r` times the scale of scale row `r / 16`. -/
theorem weight_pair (w : IVec S1792x18944 8) (s : IVec S112x18944 8) (r : Fin 1792) (p : Fin 2) (n : Fin 18944) :
    weight (2 * r.val + p.val) (w (ix2 (byteRow (⟨2 * r.val + p.val, by omega⟩ : Fin 3584)) n))
        (s (ix2 (scaleRow (⟨2 * r.val + p.val, by omega⟩ : Fin 3584)) n))
      = codeValue (nibble p.val (w (ix2 r n))) * scaleValue (s (ix2 (⟨r.val / 16, by omega⟩ : Fin 112) n)) := by
  have hb : byteRow (⟨2 * r.val + p.val, by omega⟩ : Fin 3584) = r :=
    Fin.ext (show (2 * r.val + p.val) / 2 = r.val by omega)
  have hs : scaleRow (⟨2 * r.val + p.val, by omega⟩ : Fin 3584) = (⟨r.val / 16, by omega⟩ : Fin 112) :=
    Fin.ext (show (2 * r.val + p.val) / 32 = r.val / 16 by omega)
  have hp : (2 * r.val + p.val) % 2 = p.val := by omega
  rw [hb, hs]
  unfold weight
  rw [hp]

/-- The reference's result is the kernel program's. -/
theorem result_eq (x : FVec Ideal S200x1x3584 .bf16) (w : IVec S1792x18944 8) (s : IVec S112x18944 8) :
    val_main_v56 (F := Ideal) x w s = result x w s := by
  funext i
  have h1 : i 1 = (0 : Fin 1) := Fin.ext (by have : (i 1).val < 1 := (i 1).isLt; show (i 1).val = 0; omega)
  have hi : i = ix3 (i 0) (0 : Fin 1) (i 2) := by rw [← h1]; exact eq_ix3 i
  have key : ∀ (b : Fin 200) (n : Fin 18944), val_main_v56 (F := Ideal) x w s (ix3 b (0 : Fin 1) n) = product x w s b n := by
    intro b n
    rw [ref_apply]
    unfold product
    rw [sum_pairs]
    refine Finset.sum_congr rfl fun r _ => Finset.sum_congr rfl fun p _ => ?_
    exact congrArg _ (weight_pair w s r p n).symm
  exact (congrArg (val_main_v56 (F := Ideal) x w s) hi).trans (key (i 0) (i 2))

end Cert.Mx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Array
public import proofs.«01_k».proof.Proof.Ref
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and ends with every semaphore at zero: it declares none. -/
theorem frame_R : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories agreeing on the arguments, the kernel program and the reference both run and end with the same result: the
    product of the activations with the decoded and scaled weights. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.Mx.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.Mx.run m g, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v56_eq (F := Ideal) m' c).trans ?_
  refine (Cert.Mx.result_eq _ _ _).trans ?_
  rw [(hag c).1, (hag c).2.1, (hag c).2.2]

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_R, trivial, algebraic⟩

end Cert.Proof

end
